-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x4096x2048 : Shape := ⟨3, ![1, 4096, 2048]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x4096x2048 .f32) (main_arg1 : IVec S2 32) : IVec S2 1 :=
  let main_c : IVec S2 32 := fun i => lit0 (S2.rowMajor i)
  let main_v0 : IVec S2 1 := cmpi .eq main_arg1 main_c
  main_v0
-- ==== Pre_stays_ReferenceIdeal.lean ====
abbrev S2x4096x2048 : Shape := ⟨3, ![2, 4096, 2048]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x4096x2048 .f32) (main_arg1 : IVec S2 32) : IVec S2 1 :=
  let main_c : IVec S2 32 := fun i => lit0 (S2.rowMajor i)
  let main_v0 : IVec S2 1 := cmpi .eq main_arg1 main_c
  main_v0
-- ==== Pre_swaps_Kernel.lean ====
abbrev S1x4096x2048 : Shape := ⟨3, ![1, 4096, 2048]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x4096x2048 .f32) (main_arg1 : IVec S2 32) : IVec S2 1 :=
  let main_c : IVec S2 32 := fun i => lit0 (S2.rowMajor i)
  let main_v0 : IVec S2 1 := cmpi .eq main_arg1 main_c
  main_v0
-- ==== Pre_swaps_ReferenceIdeal.lean ====
abbrev S2x4096x2048 : Shape := ⟨3, ![2, 4096, 2048]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x4096x2048 .f32) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x4096x2048 : Shape := ⟨3, ![1, 4096, 2048]⟩
abbrev S2 : Shape := ⟨1, ![2]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .f32⟩
  | .local _ .smem, ⟨0, _⟩ => ⟨S2, .i32⟩
  | _, _ => ⟨S1x4096x2048, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_5 : BitVec 32 := 0#32
  let c16_i32_4 : BitVec 32 := 16#32
  let v18 : BitVec 32 := Scalar.muli v10 c16_i32_4
  let v19 : BitVec 32 := Scalar.addi c0_i32_5 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v20 : BitVec 32 := Scalar.muli v5 c4_i32_6
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v22 : BitVec 32 := Scalar.muli v8 c1_i32_7
  let v23 : BitVec 32 := Scalar.addi v21 v22
  v23.toNat
def k0_cond1 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 1 := Scalar.cmpi .ne v10 v2
  let v12 : BitVec 32 := Scalar.extui v11
  let c0_i32 : BitVec 32 := 0#32
  let v13 : BitVec 1 := Scalar.cmpi .ne v12 c0_i32
  v13

def k0_dev2 (d0 : Dev nD) (v10 : BitVec 32) : Nat :=
  let c0_i32_11 : BitVec 32 := 0#32
  let c16_i32_10 : BitVec 32 := 16#32
  let v24 : BitVec 32 := Scalar.muli v10 c16_i32_10
  let v25 : BitVec 32 := Scalar.addi c0_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v26 : BitVec 32 := Scalar.muli v5 c4_i32_12
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v28 : BitVec 32 := Scalar.muli v8 c1_i32_13
  let v29 : BitVec 32 := Scalar.addi v27 v28
  v29.toNat

def k0_chk1 (d0 : Dev nD) (v10 : BitVec 32) : Prop :=
  (∀ (k0_h1 : k0_cond1 d0 v10 = 1#1), (k0_dev1 d0 v10) < nD) ∧
  (∀ (k0_h1 : k0_cond1 d0 v10 = 1#1), (k0_dev2 d0 v10) < nD)
theorem k0_dev1_lt : ∀ (d0 : Dev nD) (v10 : BitVec 32) (k0_hw1 : k0_chk1 d0 v10), ∀ (k0_h1 : k0_cond1 d0 v10 = 1#1), (k0_dev1 d0 v10) < nD := fun d0 v10 k0_hw1 k0_h1 => k0_hw1.1 k0_h1
theorem k0_dev2_lt : ∀ (d0 : Dev nD) (v10 : BitVec 32) (k0_hw1 : k0_chk1 d0 v10), ∀ (k0_h1 : k0_cond1 d0 v10 = 1#1), (k0_dev2 d0 v10) < nD := fun d0 v10 k0_hw1 k0_h1 => k0_hw1.2 k0_h1

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Exchange.lean ====
/-
# The exchange: what every device does, when, and with which semaphore

The mesh is 2 × 4 × 4, device `c` being `(c / 16, c / 4 % 4, c % 4)`; its row is `c / 16`. A device reads one word of the
two-word permutation, the one at its own row. If the word names the other row the device is moving: its partner is the
device 16 further on (modulo 32); the two handshake on the runtime's barrier semaphore, then each writes its whole block of
`x` into the other's result array. If the word names its own row the device is staying and copies its own block into its own
result array, on the semaphore a moving device would have sent with.

One proof covers both: everything here takes `b : Bool`, true when all the devices move and false when all of them stay.

For a moving device `c` with partner `p` there are three cells, each with one duty:
* the barrier cell, paid by `p`'s signal with `p`'s result array, and the fact that `p` is ready to receive;
* the send cell, paid by `c`'s own transfer with its own block of `x`, given back;
* the receive cell, paid by `p`'s transfer with `c`'s result array, holding `p`'s block.
For a staying device only the send cell has a duty, paid by the local copy with both arrays.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-! ## Partners and words -/

set_option backward.proofsInPublic true in
/-- The device at the same place in the other row. -/
def partner (c : Dev nD) : Dev nD := ⟨(c.val + 16) % 32, Nat.mod_lt _ (by decide)⟩

/-- Being partners goes both ways. -/
theorem partner_partner (c : Dev nD) : partner (partner c) = c := by revert c; decide

/-- Partnership as a permutation of the devices. -/
def swapDev : Dev nD ≃ Dev nD := ⟨partner, partner, partner_partner, partner_partner⟩

/-- Whose block of `x` ends in device `c`'s result array. -/
def source (b : Bool) (c : Dev nD) : Dev nD := if b then partner c else c

/-- The word device `c` reads: the row its block comes from. -/
def rowWord (b : Bool) (c : Dev nD) : BitVec 32 := BitVec.ofNat 32 ((source b c).val / 16)

/-- The word names existing devices whichever way it is used. -/
theorem rowWord_check (b : Bool) (c : Dev nD) : k0_chk1 c (rowWord b c) := by
  revert b c; unfold k0_chk1; decide +kernel

/-- The kernel takes its exchanging branch exactly when the devices move, -/
theorem cond_moving (b : Bool) (c : Dev nD) : k0_cond1 c (rowWord b c) = 1#1 ↔ b = true := by
  revert b c; decide +kernel
/-- and its copying branch exactly when they stay. -/
theorem cond_staying (b : Bool) (c : Dev nD) :
    Scalar.cmpi .ne (Scalar.extui (Scalar.xori (Scalar.cmpi .ne (rowWord b c) (Scalar.remsi (Scalar.divsi (Dev.word c) 16#32) 2#32)) 1#1) : BitVec 32) 0#32 = 1#1 ↔ b = false := by
  revert b c; decide +kernel

/-- The signal goes to the partner, -/
theorem signal_dev (c : Dev nD) (h) : (⟨k0_dev1 c (rowWord true c), h⟩ : Dev nD) = partner c :=
  Fin.ext ((by decide +kernel : ∀ c : Dev nD, k0_dev1 c (rowWord true c) = (partner c).val) c)
/-- and so does the transfer. -/
theorem transfer_dev (c : Dev nD) (h) : (⟨k0_dev2 c (rowWord true c), h⟩ : Dev nD) = partner c :=
  Fin.ext ((by decide +kernel : ∀ c : Dev nD, k0_dev2 c (rowWord true c) = (partner c).val) c)

/-! ## Resource algebra, arrays, cells -/

/-- The protocol's ghost state: one duty per cell. -/
abbrev UX : Type := URounds (GSem nD τ sig) Unit
/-- The staging pipeline's ghost state beside it. -/
abbrev UA : Type := UR sig nD τ × UX

local notation "𝕄" => MT nD τ sig Unit (Elt F) ℕ UA ℕ

abbrev EP : Emb (UR sig nD τ) (MT nD τ sig Unit (Elt F) ℕ UA ℕ) := embL
abbrev EX : Emb UX (MT nD τ sig Unit (Elt F) ℕ UA ℕ) := embR

variable (b : Bool) (m : (ℓ : Loc nD τ sig) → Buf (Elt F) ℓ) (ρ : Dev nD → PrngReg)

/-- The block of `x`, the result array and the staged permutation, as the body is handed them. -/
abbrev xM : Memref sig .tc .hbm S1x4096x2048 .f32 := Memref.whole main_arg0
abbrev oM : Memref sig .tc .hbm S1x4096x2048 .f32 := Memref.whole main_v1
abbrev piM : Memref sig .tc .smem S2 .i32 := Memref.whole cc0_stg0_0

/-- The runtime's barrier semaphore, and the two transfer semaphores. -/
abbrev barS : Sem sig := (SemArray.scalar (sig.barrier 0 rfl) : Sems sig S_).sem
abbrev sendS : DmaSem sig := cc0_scratch0.sem
abbrev recvS : DmaSem sig := cc0_scratch1.sem

/-- The three of a device, -/
abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)
/-- and the same by number. -/
abbrev semOf : Fin 3 → SemLoc sig := fun | 0 => .reg barS | 1 => .dma sendS | 2 => .dma recvS
abbrev cellAt (ck : Dev nD × Fin 3) : GSem nD τ sig := ((ck.1 : Thread nD τ), semOf ck.2)

set_option backward.proofsInPublic true in
/-- What moving one block adds to a transfer semaphore. -/
def credit : ℕ := (oM : Memref sig .tc .hbm S1x4096x2048 .f32).view.dmaCredit
theorem credit_o : (oM : Memref sig .tc .hbm S1x4096x2048 .f32).view.dmaCredit = credit := rfl
theorem credit_x : (xM : Memref sig .tc .hbm S1x4096x2048 .f32).view.dmaCredit = credit := rfl
theorem credit_pos : 0 < credit := View.dmaCredit_pos (oM : Memref sig .tc .hbm S1x4096x2048 .f32).view (by decide)
attribute [irreducible] credit

theorem send_ne_bar : (SemLoc.dma sendS : SemLoc sig) ≠ .reg barS := fun h => by cases h
theorem recv_ne_bar : (SemLoc.dma recvS : SemLoc sig) ≠ .reg barS := fun h => by cases h
theorem recv_ne_send : (SemLoc.dma recvS : SemLoc sig) ≠ .dma sendS := by decide

/-- Device `c`'s block of `x`, held whole. -/
def xAt (c : Dev nD) : sProp 𝕄 := ((c : Thread nD τ).loc main_arg0) ↦{fullShare} m ((c : Thread nD τ).loc main_arg0)
/-- Device `c`'s result array, held whole at contents `f`. -/
def oAt (c : Dev nD) (f : Buf (Elt F) ((c : Thread nD τ).loc main_v1)) : sProp 𝕄 := ((c : Thread nD τ).loc main_v1) ↦{fullShare} f
/-- Device `c`'s result array holding device `d`'s block of `x`. -/
def oHas (c d : Dev nD) : sProp 𝕄 := oAt c (m ((d : Thread nD τ).loc main_arg0))

omit [FloatOps F] in
instance xAt_storable (c : Dev nD) : BI.Storable (upEmb : UEmb _ 𝕄) (xAt m c) := by unfold xAt; infer_instance
omit [FloatOps F] in
instance oAt_storable (c : Dev nD) (f) : BI.Storable (upEmb : UEmb _ 𝕄) (oAt (F := F) c f) := by unfold oAt; infer_instance
omit [FloatOps F] in
instance oHas_storable (c d : Dev nD) : BI.Storable (upEmb : UEmb _ 𝕄) (oHas m c d) := by unfold oHas; infer_instance

/-! ## The schedule -/

/-- What a signal hands the device it reaches: the signalling device's result array, and that it is ready to receive. -/
def barPay (c : Dev nD) : sProp 𝕄 := iprop((∃ f, oAt (partner c) f) ∗ reached EX (recvCell (partner c)) 0)
/-- What the send semaphore hands back: the block of `x`, and for a staying device its result array too. -/
def sendPay (c : Dev nD) : sProp 𝕄 := if b then xAt m c else iprop(oHas m c c ∗ xAt m c)

/-- The cells that have a duty: every send cell, and when the devices move the other two as well. -/
abbrev HasDuty (g : GSem nD τ sig) : Prop := g.1.2 = .tc ∧ (g.2 = .dma sendS ∨ b = true ∧ (g.2 = .reg barS ∨ g.2 = .dma recvS))

/-- One duty at round 0 on each of those cells: one unit on a barrier cell, a block's credit on a transfer cell. -/
def plan : Rounds.Schedule (GSem nD τ sig) Unit 𝕄 where
  duties g r := if r = 0 ∧ HasDuty b g then {()} else ∅
  unitless _ := False
  amount g _ _ := if g.2 = .reg barS then 1 else credit
  payload g _ _ :=
    if g.2 = .reg barS then barPay g.1.1
    else if g.2 = .dma sendS then sendPay b m g.1.1
    else oHas m g.1.1 (partner g.1.1)
  amount_pos g _ _ _ := by
    split
    · exact Nat.one_pos
    · exact credit_pos

instance plan_storable (g : GSem nD τ sig) (r : ℕ) (d : Unit) :
    BI.Storable (upEmb : UEmb _ 𝕄) ((plan (F := F) b m).payload g r d) := by
  show BI.Storable upEmb (if g.2 = .reg barS then barPay g.1.1 else if g.2 = .dma sendS then sendPay b m g.1.1 else oHas m g.1.1 (partner g.1.1))
  unfold barPay sendPay
  (repeat' split) <;> infer_instance

omit [FloatOps F] in
/-- Past round 0 no cell has a duty. -/
theorem no_duty_later (g : GSem nD τ sig) : ∀ r, 1 ≤ r → (plan (F := F) b m).duties g r = ∅ :=
  fun r hr => if_neg fun h => absurd h.1 (Nat.ne_of_gt hr)

omit [FloatOps F] in
/-- When the devices stay, barrier and receive cells have no duty at any round. -/
theorem no_duty_staying (c : Dev nD) (k : Fin 3) (hk : k ≠ 1) (r : ℕ) : (plan (F := F) false m).duties (cellAt (c, k)) r = ∅ :=
  if_neg fun h => by
    rcases h.2.2 with h' | h'
    · fin_cases k
      · exact send_ne_bar h'.symm
      · exact hk rfl
      · exact recv_ne_send h'
    · exact Bool.false_ne_true h'.1

omit [FloatOps F] in
theorem duty_send (c : Dev nD) : (plan (F := F) b m).duties (sendCell c) 0 = {()} := by dsimp only [plan]; exact if_pos ⟨rfl, rfl, .inl rfl⟩
omit [FloatOps F] in
theorem duty_bar (c : Dev nD) : (plan (F := F) true m).duties (barCell c) 0 = {()} := by dsimp only [plan]; exact if_pos ⟨rfl, rfl, .inr ⟨rfl, .inl rfl⟩⟩
omit [FloatOps F] in
theorem duty_recv (c : Dev nD) : (plan (F := F) true m).duties (recvCell c) 0 = {()} := by dsimp only [plan]; exact if_pos ⟨rfl, rfl, .inr ⟨rfl, .inr rfl⟩⟩

omit [FloatOps F] in
theorem amount_bar (c : Dev nD) : (plan (F := F) b m).amount (barCell c) 0 () = 1 := by dsimp only [plan]; exact if_pos rfl
omit [FloatOps F] in
theorem amount_send (c : Dev nD) : (plan (F := F) b m).amount (sendCell c) 0 () = credit := by dsimp only [plan]; exact if_neg send_ne_bar
omit [FloatOps F] in
theorem amount_recv (c : Dev nD) : (plan (F := F) b m).amount (recvCell c) 0 () = credit := by dsimp only [plan]; exact if_neg recv_ne_bar

omit [FloatOps F] in
theorem payload_bar (c : Dev nD) : (plan (F := F) b m).payload (barCell c) 0 () = barPay c := by dsimp only [plan]; exact if_pos rfl
omit [FloatOps F] in
theorem payload_send (c : Dev nD) : (plan (F := F) b m).payload (sendCell c) 0 () = sendPay b m c := by
  dsimp only [plan]; rw [if_neg send_ne_bar, if_pos rfl]
omit [FloatOps F] in
theorem payload_recv (c : Dev nD) : (plan (F := F) b m).payload (recvCell c) 0 () = oHas m c (partner c) := by
  dsimp only [plan]; rw [if_neg recv_ne_bar, if_neg recv_ne_send]

omit [FloatOps F] in
/-- A cell with the one duty expects that duty's amount, -/
theorem expect_of {g : GSem nD τ sig} (h : (plan (F := F) b m).duties g 0 = {()}) {n : ℕ} (ha : (plan (F := F) b m).amount g 0 () = n) :
    (plan (F := F) b m).expect g 0 = n := by
  unfold Schedule.expect Schedule.amountOf; rw [h, Finset.sum_singleton, ha]

omit [FloatOps F] in
/-- and hands over that duty's payload. -/
theorem rest_of {g : GSem nD τ sig} (h : (plan (F := F) b m).duties g 0 = {()}) :
    bigSep ((plan (F := F) b m).duties g 0 \ ∅) (fun d => (plan (F := F) b m).payload g 0 d) = (plan (F := F) b m).payload g 0 () := by
  rw [Finset.sdiff_empty, h, bigSep_singleton]

/-! ## Debts and levels -/

/-- What a moving device owes at launch: its partner's receive cell a block's credit, its partner's barrier cell a unit. -/
def owed₀ (b : Bool) (c : Dev nD) : CellTallies nD τ sig Unit :=
  if b then tallyAt (recvCell (partner c)) () credit + tallyAt (barCell (partner c)) () 1 else 0

/-- Every TensorCore cell is levelled: barrier cells at 1, receive cells at 2, the others at 0. -/
def levelled (g : GSem nD τ sig) : Finset Unit := if g.1.2 = .tc then {()} else ∅
def level (g : GSem nD τ sig) (_ : Unit) : ℕ := if g.2 = .reg barS then 1 else if g.2 = .dma recvS then 2 else 0

theorem levelled_other (g : GSem nD τ sig) (h : g.1.2 ≠ .tc) : levelled g = ∅ := if_neg h
theorem mem_levelled (c : Dev nD) (s : SemLoc sig) : () ∈ levelled ((c : Thread nD τ), s) := by
  rw [levelled, if_pos rfl]; exact Finset.mem_singleton_self _
theorem level_bar (c : Dev nD) : level (barCell c) () = 1 := if_pos rfl
theorem level_recv (c : Dev nD) : level (recvCell c) () = 2 := (if_neg recv_ne_bar).trans (if_pos rfl)
theorem level_other (c : Dev nD) {s : SemLoc sig} (h : s ≠ .reg barS) (h' : s ≠ .dma recvS) : level ((c : Thread nD τ), s) () = 0 :=
  (if_neg h).trans (if_neg h')

/-- The launch debt is towards the partner's two cells only. -/
theorem owed₀_cases {b : Bool} {c : Dev nD} {g : GSem nD τ sig} {u : Unit} (h : 0 < owed₀ b c g u) :
    g = recvCell (partner c) ∨ g = barCell (partner c) := by
  unfold owed₀ at h
  split at h
  · rcases Pipeline.add_pos_cases h with h | h
    · exact .inl (Pipeline.tallyAt_pos h).1
    · exact .inr (Pipeline.tallyAt_pos h).1
  · exact absurd h (Nat.lt_irrefl 0)

omit [FloatOps F] in
/-- A device with its launch debt may wait on any semaphore that is neither the barrier nor the receive semaphore; -/
theorem mayWait_launch (c : Dev nD) {s : SemLoc sig} (h : s ≠ .reg barS) (h' : s ≠ .dma recvS) :
    (levAts levelled level : sProp 𝕄) ⊢ MayWait (c : Thread nD τ) s () (owed₀ b c) :=
  Pipeline.mayWait_of_levAts (mem_levelled c s) fun g i hg => by
    rw [level_other c h h']
    rcases owed₀_cases hg with rfl | rfl
    · exact ⟨mem_levelled _ _, by rw [level_recv]; decide⟩
    · exact ⟨mem_levelled _ _, by rw [level_bar]; decide⟩

omit [FloatOps F] in
/-- once it has signalled, it may wait on its barrier. -/
theorem mayWait_bar (c : Dev nD) :
    (levAts levelled level : sProp 𝕄) ⊢ MayWait (c : Thread nD τ) (.reg barS) () (tallyAt (recvCell (partner c)) () credit) :=
  Pipeline.mayWait_of_levAts (mem_levelled c _) fun g i hg => by
    obtain ⟨rfl, _⟩ := Pipeline.tallyAt_pos hg
    exact ⟨mem_levelled _ _, by rw [show level ((c : Thread nD τ), SemLoc.reg barS) () = 1 from level_bar c, level_recv]; decide⟩

/-! ## What a device holds around the kernel -/

/-- The cell invariants device `c` opens, at the names `K`: its own three and its partner's barrier and receive cells. -/
def invs (K : Dev nD × Fin 3 → ℕ) (c : Dev nD) : sProp 𝕄 :=
  iprop(cellInv EX (plan b m) (K (c, 0)) (barCell c) ∗ cellInv EX (plan b m) (K (c, 1)) (sendCell c) ∗ cellInv EX (plan b m) (K (c, 2)) (recvCell c)
    ∗ cellInv EX (plan b m) (K (partner c, 0)) (barCell (partner c)) ∗ cellInv EX (plan b m) (K (partner c, 2)) (recvCell (partner c)))

instance invs_persistent (K : Dev nD × Fin 3 → ℕ) (c : Dev nD) : BI.Persistent (invs b m K c) := by unfold invs; infer_instance

/-- That its partner's cells and its own stand at round 0. -/
def marks (c : Dev nD) : sProp 𝕄 :=
  iprop(reached EX (barCell (partner c)) 0 ∗ reached EX (recvCell (partner c)) 0 ∗ reached EX (sendCell c) 0 ∗ reached EX (recvCell c) 0)

omit [FloatOps F] in
instance marks_persistent (c : Dev nD) : BI.Persistent (marks (F := F) c) := by unfold marks; infer_instance

/-- Its positions on its own three cells. -/
def spots (c : Dev nD) : sProp 𝕄 := iprop(atPos EX (barCell c) 0 ∅ 0 ∗ atPos EX (sendCell c) 0 ∅ 0 ∗ atPos EX (recvCell c) 0 ∅ 0)
/-- The tokens of the duties it pays: its partner's barrier and receive duties and its own send duty. -/
def pays (c : Dev nD) : sProp 𝕄 :=
  iprop(dutyTok EX (barCell (partner c)) 0 () ∗ dutyTok EX (sendCell c) 0 () ∗ dutyTok EX (recvCell (partner c)) 0 ())

/-- The protocol's ghost state on device `c`. -/
def ghost (K : Dev nD × Fin 3 → ℕ) (c : Dev nD) : sProp 𝕄 := iprop(invs b m K c ∗ marks c ∗ spots c ∗ pays c)

/-- The credit tokens of a moving device: for the unit and for the block its partner owes it. -/
def creds (c : Dev nD) : sProp 𝕄 :=
  if b then iprop(cred (tallyAt (barCell c) () 1) ∗ cred (tallyAt (recvCell c) () credit)) else iprop(emp)

/-- What device `c` starts the kernel with: that ghost state, its credit, the levels, its block of `x` and its result array. -/
def start (c : Dev nD) : sProp 𝕄 :=
  iprop((∃ K, ghost b m K c) ∗ creds b c ∗ levAts levelled level ∗ xAt m c ∗ ∃ f, oAt c f)

/-- What it ends with: its block of `x` unchanged, its result array holding the source's block, the semaphores at zero. -/
def finish (c : Dev nD) : sProp 𝕄 :=
  iprop(xAt m c ∗ oHas m c (source b c) ∗ semVal (barCell c) 0 ∗ semVal (sendCell c) 0 ∗ semVal (recvCell c) 0)

/-- The permutation as device `c` holds it, staged whole. -/
def piAt (c : Dev nD) : (cc0_stg0_0 : Ref sig .tc).ty.Contents (Elt F) :=
  (win0_0.blk (0 : Fin 1)).view.read (Elt F) (m ((c : Thread nD τ).loc main_arg1))

/-- The staging pipeline's proof data: the permutation is staged in and left alone. -/
def dats (_ : Fin 1) (c : Dev nD) : Dat τ (Elt F) Unit ℕ UA ℕ cfg0 c where
  A w := m ((cfg0.win w).arr.view.loc (c : Thread nD τ))
  after w _ := match w with
    | ⟨0, _⟩ => piAt m c
  Φ t := match t with
    | ⟨0, _⟩ => start b m c
    | ⟨_ + 1, _⟩ => finish b m c
  q _ := fullShare
  owed t := match t with
    | ⟨0, _⟩ => owed₀ b c
    | ⟨_ + 1, _⟩ => 0

/-- The place of the permutation device `c` reads: its own row. -/
def ownRow (c : Dev nD) : S2.Idx := fun a => ⟨c.val / 16, by fin_cases a; exact Nat.div_lt_of_lt_mul c.isLt⟩

/-- What the permutation says on every device: the word at its own row is the row its block comes from. -/
def Says : Prop := ∀ c : Dev nD, (m ((c : Thread nD τ).loc main_arg1) : IVec S2 32) (ownRow c) = rowWord b c

end Cert.Exchange

end
-- ==== Proof.Body.lean ====
/-
# One device's run of the kernel body

From what a device starts with (`start`) to what it ends with (`finish`), one rule per effect in program order: the word of
the permutation is loaded and its check passed, then a moving device signals its partner, waits to be signalled, sends its
block and waits for both transfers, and a staying device copies its own block and waits for the copy.
-/
module

public import proofs.«01_k».proof.Proof.Exchange

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UA ℕ

variable (b : Bool) (m : (ℓ : Loc nD τ sig) → Buf (Elt F) ℓ) (ρ : Dev nD → PrngReg)

/-! ## Small facts the steps need -/

/-- Where the word is loaded from. -/
abbrev wordRect (c : Dev nD) : Rect S2 := Rect.unit (s := S2) (k0_off1 c) S1.size (k0_off1_inb c)
/-- The loaded word. -/
abbrev loaded (c : Dev nD) : BitVec 32 :=
  ((piM : Memref sig .tc .smem S2 .i32).access (wordRect c) : View sig .tc _ _ _).read (Elt F) (piAt m c) (Shape.Idx.first (s := S1) (numel1_S1.symm ▸ Nat.one_pos))

omit [FloatOps F] in
/-- The loaded word is the permutation's at the device's own row. -/
theorem loaded_eq (c : Dev nD) : loaded m c = (m ((c : Thread nD τ).loc main_arg1) : IVec S2 32) (ownRow c) := by
  show m ((c : Thread nD τ).loc main_arg1) _ = _
  refine congrArg _ (funext fun a => Fin.ext ?_)
  fin_cases a; revert c; decide +kernel

omit [FloatOps F] in
/-- Writing the whole of one array over the whole of another leaves the first's contents. -/
theorem written (fs : (main_arg0 : Ref sig .tc).ty.Contents (Elt F)) (fd : (main_v1 : Ref sig .tc).ty.Contents (Elt F)) :
    (oM : Memref sig .tc .hbm S1x4096x2048 .f32).view.write (Elt F) fd ((xM : Memref sig .tc .hbm S1x4096x2048 .f32).view.read (Elt F) fs) Finset.univ = fs := by
  show (View.whole main_v1).write (Elt F) fd ((View.whole main_arg0).read (Elt F) fs) Finset.univ = fs
  rw [View.read_whole]; exact View.write_whole_univ _ _ _

omit [FloatOps F] in
/-- Device `c`'s block as a transfer names it. -/
theorem xAt_view (c : Dev nD) : xAt m c = ((xM : Memref sig .tc .hbm S1x4096x2048 .f32).view.loc (c : Thread nD τ)
    ↦[(xM : Memref sig .tc .hbm S1x4096x2048 .f32).view.set]{fullShare} m ((c : Thread nD τ).loc main_arg0) : sProp 𝕄) := by
  unfold xAt; rw [View.set_whole]
omit [FloatOps F] in
/-- Device `c`'s result array as a transfer names it. -/
theorem oAt_view (c : Dev nD) (f : Buf (Elt F) ((c : Thread nD τ).loc main_v1)) : oAt c f = ((oM : Memref sig .tc .hbm S1x4096x2048 .f32).view.loc (c : Thread nD τ)
    ↦[(oM : Memref sig .tc .hbm S1x4096x2048 .f32).view.set]{fullShare} f : sProp 𝕄) := by
  unfold oAt; rw [View.set_whole]

abbrev noVariants : Variants := Variants.none

variable (K : Dev nD × Fin 3 → ℕ)

/-- The transfer of device `c`'s block into its partner's result array, addressed to `n`, the partner: it takes both arrays,
    the two duties' tokens and the debt of a block, and leaves the credit the send wait needs. -/
theorem wp_transfer (c n : Dev nD) (hn : n = partner c) {hsc : (oM : Memref sig (Dev.tc n : Thread nD τ).2.kind .hbm S1x4096x2048 .f32).view.ref.isScScratch = false}
    {hsrc : (xM : Memref sig .tc .hbm S1x4096x2048 .f32).view.WordExact} {hdst : (oM : Memref sig .tc .hbm S1x4096x2048 .f32).view.WordExact}
    {hsem : DmaTarget.Typed .hbm (.dma recvS) (.remote (Dev.tc n : Thread nD τ) (oM : Memref sig .tc .hbm S1x4096x2048 .f32) (.dma sendS) hsc)}
    {α : Type} {Q : α → sProp 𝕄} {k : PUnit → Prog (TpuEff nD τ sig (Elt F) Λ₀ .tc) α} (f) (W : Waits sig Unit) :
    iprop(cellInv EX (plan true m) (K (c, 1)) (sendCell c) ∗ cellInv EX (plan true m) (K (partner c, 2)) (recvCell (partner c))
        ∗ xAt m c ∗ oAt (partner c) f
        ∗ owes (c : Thread nD τ) (tallyAt (recvCell (partner c)) () credit) W
        ∗ dutyTok EX (sendCell c) 0 () ∗ reached EX (sendCell c) 0
        ∗ dutyTok EX (recvCell (partner c)) 0 () ∗ reached EX (recvCell (partner c)) 0)
      ⊢ iprop(((cred (tallyAt (sendCell c) () credit) ∗ owes (c : Thread nD τ) 0 W) -∗ wp frame (wpE (defs₀ (F := F)) noVariants (c : Thread nD τ) none) Set.univ (k ⟨⟩) Q)
          -∗ wp frame (wpE (defs₀ (F := F)) noVariants (c : Thread nD τ) none) Set.univ
              (.op (.enqueueDma xM (.remote (Dev.tc n : Thread nD τ) oM (.dma sendS) hsc) (.dma recvS) hsrc hdst hsem) k) Q) := by
  subst hn
  rw [xAt_view, oAt_view]
  exact Rounds.wp_send_pointsTo noVariants EX (plan true m) (c : Thread nD τ) none (κ₁ := K (c, 1)) (κ₂ := K (partner c, 2))
    (c' := (partner c : Thread nD τ)) (src := xM) (dst := oM) (sS := .dma sendS) (sem := .dma recvS) (r₁ := 0) (r₂ := 0) (d₁ := ()) (d₂ := ()) (fs := m ((c : Thread nD τ).loc main_arg0)) (fd := f)
    (by rw [duty_send]; exact Finset.mem_singleton_self _) (by rw [duty_recv]; exact Finset.mem_singleton_self _)
    () () credit credit_o (amount_send true m c) (amount_recv true m (partner c)) (O₀ := tallyAt (recvCell (partner c)) () credit) 0 (by rw [zero_add]) (W := W)
    (by rw [payload_send]; unfold sendPay; rw [if_pos rfl, xAt_view])
    (by rw [payload_recv, partner_partner]; unfold oHas; rw [oAt_view, written])

/-- A staying device's copy of its block into its own result array. -/
theorem wp_copyOwn (c : Dev nD)
    {hsrc : (xM : Memref sig .tc .hbm S1x4096x2048 .f32).view.WordExact} {hdst : (oM : Memref sig .tc .hbm S1x4096x2048 .f32).view.WordExact}
    {hsem : DmaTarget.Typed .hbm (.dma sendS) (.here oM : DmaTarget nD τ sig .tc .hbm S1x4096x2048 .f32)}
    {α : Type} {Q : α → sProp 𝕄} {k : PUnit → Prog (TpuEff nD τ sig (Elt F) Λ₀ .tc) α} (f) :
    iprop(cellInv EX (plan false m) (K (c, 1)) (sendCell c) ∗ xAt m c ∗ oAt c f ∗ dutyTok EX (sendCell c) 0 () ∗ reached EX (sendCell c) 0)
      ⊢ iprop((cred (tallyAt (sendCell c) () credit) -∗ wp frame (wpE (defs₀ (F := F)) noVariants (c : Thread nD τ) none) Set.univ (k ⟨⟩) Q)
          -∗ wp frame (wpE (defs₀ (F := F)) noVariants (c : Thread nD τ) none) Set.univ
              (.op (.enqueueDma xM (.here oM) (.dma sendS) hsrc hdst hsem) k) Q) := by
  rw [xAt_view, oAt_view]
  exact Rounds.wp_copy_pointsTo noVariants EX (plan false m) (c : Thread nD τ) none (κ := K (c, 1)) (src := xM) (dst := oM) (sem := .dma sendS) (r := 0) (d := ()) (fs := m ((c : Thread nD τ).loc main_arg0)) (fd := f)
    (by rw [duty_send]; exact Finset.mem_singleton_self _) () credit credit_o (amount_send false m c)
    (by rw [payload_send]; unfold sendPay; rw [if_neg Bool.false_ne_true, xAt_view]; unfold oHas; rw [oAt_view, written])

/-- The wait that empties a cell of its one duty: for the cell's whole amount `n`, it takes the credit for as much, and
    brings what the duty hands over and the position at round 1. -/
theorem wp_waitAll (c : Dev nD) (s : SemLoc sig) (κ : ℕ) (hd : (plan b m).duties ((c : Thread nD τ), s) 0 = {()})
    {n : ℕ} (hn : (plan b m).amount ((c : Thread nD τ), s) 0 () = n) {P : sProp 𝕄} (hP : (plan b m).payload ((c : Thread nD τ), s) 0 () = P)
    {w : TpuEff nD τ sig (Elt F) Λ₀ .tc PUnit}
    (hw : ∀ k : PUnit → sProp 𝕄, wpE (defs₀ (F := F)) noVariants (c : Thread nD τ) none Set.univ w k = waitSpec (c : Thread nD τ) Set.univ s n k)
    {O : CellTallies nD τ sig Unit} {W : Waits sig Unit} {α : Type} {Q : α → sProp 𝕄} {k : PUnit → Prog (TpuEff nD τ sig (Elt F) Λ₀ .tc) α} :
    iprop(cellInv EX (plan b m) κ ((c : Thread nD τ), s) ∗ cred (tallyAt ((c : Thread nD τ), s) () n) ∗ owes (c : Thread nD τ) O W
        ∗ MayWait (c : Thread nD τ) s () O ∗ atPos EX ((c : Thread nD τ), s) 0 ∅ 0)
      ⊢ iprop(((owes (c : Thread nD τ) O (insert (s, ()) W) ∗ atPos EX ((c : Thread nD τ), s) 1 ∅ 0 ∗ reached EX ((c : Thread nD τ), s) 1 ∗ P)
            -∗ wp frame (wpE (defs₀ (F := F)) noVariants (c : Thread nD τ) none) Set.univ (k ⟨⟩) Q)
          -∗ wp frame (wpE (defs₀ (F := F)) noVariants (c : Thread nD τ) none) Set.univ (.op w k) Q) := by
  subst hP
  rw [← rest_of b m hd]
  exact Rounds.wp_wait_rest_token noVariants EX (plan b m) (c : Thread nD τ) none hw (Set.mem_univ κ) () (R := 0) (m := 0) (T := ∅)
    (by rw [Nat.zero_add, expect_of b m hd hn])

/-! ## The body -/

/-- The body as the pipeline calls it. -/
abbrev theBody : Prog (TpuEff nD τ sig (Elt F) Λ₀ .tc) PUnit :=
  cc0_body (Memref.whole main_arg0) (Memref.isWhole_whole _) (Memref.whole cc0_stg0_0) (Memref.isWhole_whole _) (Memref.whole main_v1) (Memref.isWhole_whole _) cc0_scratch0 cc0_scratch1

/-- A cell past its last duty closes: its counter, at zero, is the device's again. -/
theorem close (g : GSem nD τ sig) (κ R : ℕ) (h : ∀ r, R ≤ r → (plan (F := F) b m).duties g r = ∅) :
    iprop(cellInv EX (plan b m) κ g ∗ atPos EX g R ∅ 0) ⊢ |={Set.univ}=> (semVal g 0 : sProp 𝕄) :=
  Rounds.cell_close EX (plan b m) (Set.mem_univ κ) (fun h => h) (R := R) h

/-- From `start` to `finish`: the body on one device, all of them moving or all of them staying. -/
theorem body_run (hs : Says b m) (c : Dev nD) (W : Waits sig Unit) (Q : PUnit → sProp 𝕄) :
    iprop(start b m c ∗ owes (c : Thread nD τ) (owed₀ b c) W ∗ (((c : Thread nD τ).loc cc0_stg0_0) ↦{fullShare} piAt m c)
        ∗ (∀ W', (finish b m c ∗ owes (c : Thread nD τ) 0 W' ∗ (((c : Thread nD τ).loc cc0_stg0_0) ↦{fullShare} piAt m c)) -∗ Q ⟨⟩))
      ⊢ wp frame (wpE (defs₀ (F := F)) noVariants (c : Thread nD τ) none) Set.univ theBody Q := by
  unfold theBody
  rw [cc0_body_eq_skeleton]; unfold cc0_body_skel
  simp only [semSignalWord, semWaitWord, smemLoad, smemLoadElt, Prog.lift, Prog.bind_op, Prog.bind_ret, Prog.pure_eq_ret, Prog.bind_assoc, wp_deviceId]
  unfold start ghost spots pays
  iintro ⟨⟨⟨%K, #HI, #HM, ⟨HaB, HaS, HaV⟩, HtB, HtS, HtV⟩, Hc, #Hlev, Hx, ⟨%f, Ho⟩⟩, HO, Hpi, Hk⟩
  iapply (wp_load_rect noVariants (c : Thread nD τ) none Set.univ (m := piM) (r := wordRect c) (Finset.subset_univ _)) $$ Hpi; iintro Hpi
  have hw : loaded m c = rowWord b c := (loaded_eq m c).trans (hs c)
  unfold loaded at hw
  rw [hw]
  simp only [wp_assume_of _ _ _ _ (d := k0_chk1.dec _ _) (rowWord_check b c)]
  unfold invs marks
  icases HI with ⟨#HIb, #HIs, #HIv, #HIbP, #HIvP⟩
  icases HM with ⟨#HrbP, #HrvP, #Hrs, #Hrv⟩
  cases b
  · -- staying
    rw [dif_neg (fun h => Bool.false_ne_true ((cond_moving false c).mp h)), if_pos ((cond_staying false c).mpr rfl)]
    iapply (wp_copyOwn m K c f) $$ [Hx Ho HtS]
    · isplitr; · iexact HIs
      isplitl [Hx]; · iexact Hx
      isplitl [Ho]; · iexact Ho
      isplitl [HtS]; · iexact HtS
      iexact Hrs
    iintro HcS
    iapply (wp_waitAll false m c (.dma sendS) (K (c, 1)) (duty_send false m c) (amount_send false m c) (payload_send false m c)
      (fun k => (wpE_waitDma2_eq noVariants (c : Thread nD τ) none Set.univ k).trans (by rw [credit_o])) (O := 0) (W := W)) $$ [HcS HO HaS]
    · isplitr; · iexact HIs
      isplitl [HcS]; · iexact HcS
      isplitl [HO]; · iexact HO
      isplitr; · rw [MayWait_zero]; iempintro
      iexact HaS
    iintro ⟨HO, HaS, -, Hpay⟩
    ihave Hpay := (Entails.of_eq (show sendPay false m c = iprop(oHas m c c ∗ xAt m c) from rfl)) $$ Hpay
    icases Hpay with ⟨Ho, Hx⟩
    imod (close false m (barCell c) (K (c, 0)) 0 (fun r _ => no_duty_staying m c 0 (by decide) r)) $$ [HaB] with HzB
    · isplitr; · iexact HIb
      iexact HaB
    imod (close false m (recvCell c) (K (c, 2)) 0 (fun r _ => no_duty_staying m c 2 (by decide) r)) $$ [HaV] with HzV
    · isplitr; · iexact HIv
      iexact HaV
    imod (close false m (sendCell c) (K (c, 1)) 1 (no_duty_later false m _)) $$ [HaS] with HzS
    · isplitr; · iexact HIs
      iexact HaS
    rw [wp_ret]; imodintro
    iapply Hk $$ %_
    unfold finish
    isplitl [Hx Ho HzB HzS HzV]
    · isplitl [Hx]; · iexact Hx
      isplitl [Ho]; · iexact Ho
      isplitl [HzB]; · iexact HzB
      isplitl [HzS] <;> iassumption
    isplitl [HO]; · iexact HO
    iexact Hpi
  · -- moving
    have hmove := (cond_moving true c).mpr rfl
    rw [dif_pos hmove]
    simp only [signal_dev]
    ihave HO := (Entails.of_eq (show owes (c : Thread nD τ) (owed₀ true c) W = (owes (c : Thread nD τ)
      (tallyAt (recvCell (partner c)) () credit + tallyAt (barCell (partner c)) () 1) W : sProp 𝕄) from rfl)) $$ HO
    ihave Hc := (Entails.of_eq (show (creds true c : sProp 𝕄) = iprop(cred (tallyAt (barCell c) () 1) ∗ cred (tallyAt (recvCell c) () credit)) from rfl)) $$ Hc
    icases Hc with ⟨HcB, HcV⟩
    -- the signal to the partner hands over this device's result array
    iapply (Rounds.wp_signal noVariants EX (plan true m) (c : Thread nD τ) none (dst := (partner c : Thread nD τ)) (κ := K (partner c, 0))
        (d := ()) (by rw [duty_bar]; exact Finset.mem_singleton_self _) ((amount_bar true m (partner c)).trans (by decide)) ()
        (tallyAt (recvCell (partner c)) () credit) rfl) $$ [HO HtB Ho]
    · isplitr; · iexact HIbP
      isplitl [HO]; · iexact HO
      isplitl [HtB]; · iexact HtB
      isplitl [Ho]
      · rw [payload_bar]; unfold barPay; rw [partner_partner]
        isplitl [Ho]; · iexists f; iexact Ho
        iexact Hrv
      iexact HrbP
    iintro HO
    -- being signalled brings the partner's
    iapply (wp_waitAll true m c (.reg barS) (K (c, 0)) (duty_bar m c) (amount_bar true m c) (payload_bar true m c)
      (wpE_semWait_eq noVariants (c : Thread nD τ) none Set.univ) (O := tallyAt (recvCell (partner c)) () credit) (W := W)) $$ [HcB HO HaB]
    · isplitr; · iexact HIb
      isplitl [HcB]; · iexact HcB
      isplitl [HO]; · iexact HO
      isplitr; · iapply (mayWait_bar c); iexact Hlev
      iexact HaB
    iintro ⟨HO, HaB, -, Hpay⟩
    unfold barPay
    icases Hpay with ⟨⟨%fp, Hop⟩, -⟩
    -- the transfer
    iapply (wp_transfer m K c ⟨k0_dev2 c (rowWord true c), k0_dev2_lt c _ (rowWord_check true c) hmove⟩ (transfer_dev c _) fp _) $$ [Hx Hop HO HtS HtV]
    · isplitr; · iexact HIs
      isplitr; · iexact HIvP
      isplitl [Hx]; · iexact Hx
      isplitl [Hop]; · iexact Hop
      isplitl [HO]; · iexact HO
      isplitl [HtS]; · iexact HtS
      isplitr; · iexact Hrs
      isplitl [HtV]; · iexact HtV
      iexact HrvP
    iintro ⟨HcS, HO⟩
    -- this device's block comes back
    iapply (wp_waitAll true m c (.dma sendS) (K (c, 1)) (duty_send true m c) (amount_send true m c) (payload_send true m c)
      (fun k => (wpE_waitDma2_eq noVariants (c : Thread nD τ) none Set.univ k).trans (by rw [credit_x])) (O := 0)) $$ [HcS HO HaS]
    · isplitr; · iexact HIs
      isplitl [HcS]; · iexact HcS
      isplitl [HO]; · iexact HO
      isplitr; · rw [MayWait_zero]; iempintro
      iexact HaS
    iintro ⟨HO, HaS, -, Hx⟩
    -- and its result array, holding the partner's
    iapply (wp_waitAll true m c (.dma recvS) (K (c, 2)) (duty_recv m c) (amount_recv true m c) (payload_recv true m c)
      (fun k => (wpE_waitDma2_eq noVariants (c : Thread nD τ) none Set.univ k).trans (by rw [credit_o])) (O := 0)) $$ [HcV HO HaV]
    · isplitr; · iexact HIv
      isplitl [HcV]; · iexact HcV
      isplitl [HO]; · iexact HO
      isplitr; · rw [MayWait_zero]; iempintro
      iexact HaV
    iintro ⟨HO, HaV, -, Ho⟩
    ihave Hx := (Entails.of_eq (show sendPay true m c = xAt m c from rfl)) $$ Hx
    imod (close true m (barCell c) (K (c, 0)) 1 (no_duty_later true m _)) $$ [HaB] with HzB
    · isplitr; · iexact HIb
      iexact HaB
    imod (close true m (recvCell c) (K (c, 2)) 1 (no_duty_later true m _)) $$ [HaV] with HzV
    · isplitr; · iexact HIv
      iexact HaV
    imod (close true m (sendCell c) (K (c, 1)) 1 (no_duty_later true m _)) $$ [HaS] with HzS
    · isplitr; · iexact HIs
      iexact HaS
    rw [if_neg (fun h => absurd ((cond_staying true c).mp h) (by decide)), wp_ret]; imodintro
    iapply Hk $$ %_
    unfold finish
    isplitl [Hx Ho HzB HzS HzV]
    · isplitl [Hx]; · iexact Hx
      isplitl [Ho]; · iexact Ho
      isplitl [HzB]; · iexact HzB
      isplitl [HzS] <;> iassumption
    isplitl [HO]; · iexact HO
    iexact Hpi

/-! ## The obligation of the staging pipeline -/

/-- At its one grid point the body meets what the staging pipeline asks of it. -/
theorem body_obligation (hs : Says b m) (c : Dev nD) :
    BodyObligation (dats b m 0 c) (defs₀ (F := F)) noVariants () Set.univ := fun t => by
  rw [fin_N0 t, bigSep_W0, bigSep_W0]
  simp only [owns_whole]
  show iprop(start b m c ∗ (dats b m 0 c).owesAt () t0_0.castSucc ∗ ∃ d, (((c : Thread nD τ).loc cc0_stg0_0) ↦{fullShare} (dats b m 0 c).before (0 : Fin 1) t0_0 d))
    ⊢ wp frame (wpE (defs₀ (F := F)) noVariants (c : Thread nD τ) none) Set.univ theBody
        fun _ => iprop(finish b m c ∗ (dats b m 0 c).owesAt () t0_0.succ ∗ (((c : Thread nD τ).loc cc0_stg0_0) ↦{fullShare} piAt m c))
  have hbefore (d) : (dats b m 0 c).before (0 : Fin 1) t0_0 d = piAt m c := by
    unfold Dat.before; rw [if_pos (by decide)]; rfl
  simp only [hbefore]
  unfold Dat.owesAt Pipeline.owesWithin
  iintro ⟨Hst, ⟨%W, %hW, HO⟩, ⟨%d, Hpi⟩⟩
  iapply (body_run b m hs c W)
  isplitl [Hst]; · iexact Hst
  isplitl [HO]; · iexact HO
  isplitl [Hpi]; · iexact Hpi
  iintro %W' ⟨Hf, HO, Hpi⟩
  isplitl [Hf]; · iexact Hf
  isplitl [HO]
  · iexists W'
    isplitr; · ipureintro; exact fun _ _ => Or.inl trivial
    iexact HO
  iexact Hpi

end Cert.Exchange

end
-- ==== Proof.Run.lean ====
/-
# The launch and the run of `@main`

The three counters of every device become cells of the protocol, all devices' at once; each device is dealt what `start`
asks; the launch theorem then gives the run of `@main`: it ends on every schedule, with every device's result array holding
the block of `x` the permutation names, the arguments as they were and every counter at zero.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UA ℕ

variable (b : Bool) (m : (ℓ : Loc nD τ sig) → Buf (Elt F) ℓ) (ρ : Dev nD → PrngReg)

/-! ## The cells and what the launch deals -/

/-- The kernel's own semaphores: the send and the receive counter. -/
abbrev ownSem : Fin 2 → SemLoc sig := fun | 0 => .dma sendS | 1 => .dma recvS
theorem ownSemFacts : Pipeline.OwnSemFacts cfg0.spec ownSem := by decide

/-- A cell determines its device and which of the three it is. -/
theorem cellAt_injective : Function.Injective (cellAt : Dev nD × Fin 3 → GSem nD τ sig) := fun ⟨c, k⟩ ⟨c', k'⟩ h => by
  have hc : c = c' := congrArg (fun g : GSem nD τ sig => g.1.1) h
  have hk : k = k' := (by decide : Function.Injective semOf) (congrArg (fun g : GSem nD τ sig => g.2) h)
  rw [hc, hk]

/-- All the cells, and one duty token for each. -/
def allCells : Finset (GSem nD τ sig) := Finset.univ.map ⟨cellAt, cellAt_injective⟩
def allToks : Finset (GSem nD τ sig × ℕ × Unit) :=
  Finset.univ.map ⟨fun ck : Dev nD × Fin 3 => (cellAt ck, 0, ()), fun _ _ h => cellAt_injective (congrArg Prod.fst h)⟩

/-- The launch element: the staging pipeline's part and the protocol's. -/
def seed : UA := (initOf (Pipeline.cells cfgs cellOf_inj) (Pipeline.launchToks cfgs cellOf_inj), initOf allCells allToks)

/-- A device's position on a cell of its own, and the token of the cell's duty. -/
def place (ck : Dev nD × Fin 3) : sProp 𝕄 := atPos EX (cellAt ck) 0 ∅ 0
def token (ck : Dev nD × Fin 3) : sProp 𝕄 := dutyTok EX (cellAt ck) 0 ()
/-- That a cell stands at round 0. -/
def fresh (ck : Dev nD × Fin 3) : sProp 𝕄 := reached EX (cellAt ck) 0

omit [FloatOps F] in
instance fresh_persistent (ck : Dev nD × Fin 3) : BI.Persistent (fresh (F := F) ck) := by unfold fresh; infer_instance

/-- What the seed deals a device: for each of its cells the round state, that round 0 is reached, the position and the token. -/
def dealt (c : Dev nD) : sProp 𝕄 :=
  bigSep Finset.univ fun k : Fin 3 => iprop(roundState EX (plan b m) (cellAt (c, k)) 0 ∗ fresh (c, k) ∗ place (c, k) ∗ token (c, k))

/-- The protocol's part of the seed deals every device its share. -/
theorem deal : BI.own (EX (initOf allCells allToks)) ⊢ (|==> bigSep Finset.univ (dealt b m) : sProp 𝕄) := by
  have hcells (Φ : GSem nD τ sig → sProp 𝕄) : bigSep allCells Φ = bigSep Finset.univ fun ck : Dev nD × Fin 3 => Φ (cellAt ck) := by
    unfold allCells; rw [bigSep_map]; rfl
  have htoks : bigSep allToks (fun x => (dutyTok EX x.1 x.2.1 x.2.2 : sProp 𝕄)) = bigSep Finset.univ token := by
    unfold allToks; rw [bigSep_map]; rfl
  suffices hsum : iprop((bigSep allCells fun g => roundState EX (plan b m) g 0) ∗ (bigSep allCells fun g => reached EX g 0)
      ∗ (bigSep allCells fun g => atPos EX g 0 ∅ 0) ∗ bigSep allToks fun x => dutyTok EX x.1 x.2.1 x.2.2)
      = (bigSep Finset.univ (dealt b m) : sProp 𝕄) by
    iintro H
    imod (Rounds.fund EX (plan b m) allCells allToks) $$ H with H
    imodintro
    rw [← hsum]
    iexact H
  rw [hcells, hcells, hcells, htoks]
  unfold dealt
  rw [← bigSep_univ_prod (fun ck : Dev nD × Fin 3 => iprop(roundState EX (plan b m) (cellAt ck) 0 ∗ fresh ck ∗ place ck ∗ token ck)),
    bigSep_sep', bigSep_sep', bigSep_sep']
  rfl

omit [FloatOps F] in
theorem three (Φ : Fin 3 → sProp 𝕄) : bigSep Finset.univ Φ = iprop(Φ 0 ∗ Φ 1 ∗ Φ 2) := bigSep_univ_eq_bigSepL [0, 1, 2] (by decide) (by decide) Φ

omit [FloatOps F] in
/-- The kernel's own counters at zero: the send and the receive cell. -/
theorem ownSems_eq (c : Dev nD) : (Pipeline.ownSems0 (Ix := Unit) (Name := ℕ) (U := UA) (Lvl := ℕ) (Val := Elt F) (τ := τ) ownSem c : sProp 𝕄)
    = iprop(semVal (sendCell c) 0 ∗ semVal (recvCell c) 0) := by
  rw [Pipeline.ownSems0_eq_of_list c ownSem [0, 1] (by decide) (by decide)]; rfl
omit [FloatOps F] in
/-- The one unscoped counter at zero: the barrier cell. -/
theorem unscopedSems_eq (c : Dev nD) : (unscopedSems0 c : sProp 𝕄) = semVal (barCell c) 0 := by
  unfold unscopedSems0; rw [bigSep_eq_bigSepL_of_eq [SemLoc.reg barS] (by decide) (by decide)]; rfl

/-- One device's counters become cells under invariants. -/
theorem open_cells (c : Dev nD) :
    iprop(Pipeline.ownSems0 (Ix := Unit) (Name := ℕ) (U := UA) (Lvl := ℕ) (Val := Elt F) (τ := τ) ownSem c ∗ unscopedSems0 c ∗ dealt b m c)
      ⊢ |={Set.univ}=> (bigSep Finset.univ fun k : Fin 3 =>
          iprop((∃ κ : ℕ, cellInv EX (plan b m) κ (cellAt (c, k))) ∗ fresh (c, k) ∗ place (c, k) ∗ token (c, k)) : sProp 𝕄) := by
  have hsems : iprop(Pipeline.ownSems0 (Ix := Unit) (Name := ℕ) (U := UA) (Lvl := ℕ) (Val := Elt F) (τ := τ) ownSem c ∗ unscopedSems0 c)
      ⊢ (bigSep Finset.univ fun k : Fin 3 => semVal (cellAt (c, k)) 0 : sProp 𝕄) := by
    rw [ownSems_eq, unscopedSems_eq, three]
    iintro ⟨⟨HS, HV⟩, HB⟩
    isplitl [HB]; · iexact HB
    isplitl [HS] <;> iassumption
  have hone (k : Fin 3) : iprop(semVal (cellAt (c, k)) 0 ∗ roundState EX (plan b m) (cellAt (c, k)) 0 ∗ fresh (c, k) ∗ place (c, k) ∗ token (c, k))
      ⊢ |={Set.univ}=> (iprop((∃ κ : ℕ, cellInv EX (plan b m) κ (cellAt (c, k))) ∗ fresh (c, k) ∗ place (c, k) ∗ token (c, k)) : sProp 𝕄) := by
    iintro ⟨Hv, Hr, Hrest⟩
    imod ((Rounds.body_intro EX (plan b m) (cellAt (c, k))).trans inv_alloc) $$ [Hv Hr] with HI
    · isplitl [Hv] <;> iassumption
    imodintro
    isplitl [HI] <;> iassumption
  unfold dealt
  iintro ⟨Ho, Hu, Hd⟩
  ihave Hv := hsems $$ [Ho Hu]
  · isplitl [Ho] <;> iassumption
  have hall : iprop((bigSep Finset.univ fun k : Fin 3 => semVal (cellAt (c, k)) 0) ∗ bigSep Finset.univ fun k : Fin 3 =>
        iprop(roundState EX (plan b m) (cellAt (c, k)) 0 ∗ fresh (c, k) ∗ place (c, k) ∗ token (c, k)))
      ⊢ (|={Set.univ}=> bigSep Finset.univ fun k : Fin 3 =>
          iprop((∃ κ : ℕ, cellInv EX (plan b m) κ (cellAt (c, k))) ∗ fresh (c, k) ∗ place (c, k) ∗ token (c, k)) : sProp 𝕄) := by
    rw [← bigSep_sep']
    exact (bigSep_mono fun k _ => hone k).trans (bigSep_fupd _ _)
  iapply hall
  isplitl [Hv] <;> iassumption

/-! ## Each device's part of the whole -/

/-- What every device may consult: all the cell invariants and that every cell stands at round 0. -/
def shared (K : Dev nD × Fin 3 → ℕ) : sProp 𝕄 :=
  iprop((bigSep Finset.univ fun ck => cellInv EX (plan b m) (K ck) (cellAt ck)) ∗ bigSep Finset.univ fresh)

instance shared_persistent (K : Dev nD × Fin 3 → ℕ) : BI.Persistent (shared b m K) := by unfold shared; infer_instance

theorem shared_inv (K : Dev nD × Fin 3 → ℕ) (ck : Dev nD × Fin 3) : shared b m K ⊢ cellInv EX (plan b m) (K ck) (cellAt ck) := by
  have h : (bigSep Finset.univ fun ck => cellInv EX (plan b m) (K ck) (cellAt ck) : sProp 𝕄) ⊢ cellInv EX (plan b m) (K ck) (cellAt ck) :=
    bigSep_elim (Finset.mem_univ ck)
  unfold shared; iintro ⟨H, -⟩; iapply h; iexact H
theorem shared_fresh (K : Dev nD × Fin 3 → ℕ) (ck : Dev nD × Fin 3) : shared b m K ⊢ reached EX (cellAt ck) 0 := by
  have h : (bigSep Finset.univ fresh : sProp 𝕄) ⊢ reached EX (cellAt ck) 0 := bigSep_elim (Finset.mem_univ ck)
  unfold shared; iintro ⟨-, H⟩; iapply h; iexact H

/-- From those and its own positions and tokens a device has the protocol's ghost state. -/
theorem ghost_of (K : Dev nD × Fin 3 → ℕ) (c : Dev nD) : iprop(shared b m K ∗ spots c ∗ pays c) ⊢ ghost b m K c := by
  unfold ghost invs marks
  iintro ⟨#H, Hs, Hp⟩
  isplitr
  · isplitr; · iapply (shared_inv b m K (c, 0)); iexact H
    isplitr; · iapply (shared_inv b m K (c, 1)); iexact H
    isplitr; · iapply (shared_inv b m K (c, 2)); iexact H
    isplitr; · iapply (shared_inv b m K (partner c, 0)); iexact H
    iapply (shared_inv b m K (partner c, 2)); iexact H
  isplitr
  · isplitr; · iapply (shared_fresh b m K (partner c, 0)); iexact H
    isplitr; · iapply (shared_fresh b m K (partner c, 2)); iexact H
    isplitr; · iapply (shared_fresh b m K (c, 1)); iexact H
    iapply (shared_fresh b m K (c, 2)); iexact H
  isplitl [Hs] <;> iassumption

omit [FloatOps F] in
/-- The barrier and the receive tokens change hands between partners. -/
theorem tokens_swapped : (bigSep Finset.univ fun c : Dev nD => bigSep Finset.univ fun k : Fin 3 => (token (c, k) : sProp 𝕄))
    = bigSep Finset.univ fun c : Dev nD => pays c := by
  simp only [three]
  unfold pays
  rw [bigSep_sep', bigSep_sep', bigSep_sep', bigSep_sep', bigSep_univ_equiv swapDev (fun c : Dev nD => (token (c, 0) : sProp 𝕄)),
    bigSep_univ_equiv swapDev (fun c : Dev nD => (token (c, 2) : sProp 𝕄))]
  rfl

/-- What the devices hold once the cells are open, sorted into each one's ghost state. -/
theorem sort_out :
    (bigSep Finset.univ fun c : Dev nD => bigSep Finset.univ fun k : Fin 3 =>
        iprop((∃ κ : ℕ, cellInv EX (plan b m) κ (cellAt (c, k))) ∗ fresh (c, k) ∗ place (c, k) ∗ token (c, k)) : sProp 𝕄)
      ⊢ bigSep Finset.univ fun c => iprop(∃ K, ghost b m K c) := by
  simp only [bigSep_sep']
  rw [tokens_swapped, ← bigSep_univ_prod (fun ck : Dev nD × Fin 3 => iprop(∃ κ : ℕ, cellInv EX (plan b m) κ (cellAt ck))),
    ← bigSep_univ_prod (fun ck : Dev nD × Fin 3 => (fresh ck : sProp 𝕄)),
    show (bigSep Finset.univ fun c : Dev nD => bigSep Finset.univ fun k : Fin 3 => (place (c, k) : sProp 𝕄)) = bigSep Finset.univ fun c => spots c from
      bigSep_congr fun c _ => three _]
  iintro ⟨HI, #HF, Hs, Hp⟩
  ihave HK := (BI.bigSep_exists_pi Finset.univ (fun (ck : Dev nD × Fin 3) (κ : ℕ) => (cellInv EX (plan b m) κ (cellAt ck) : sProp 𝕄))) $$ HI
  icases HK with ⟨%K, #HI⟩
  have hshare : (shared b m K : sProp 𝕄) ⊢ bigSep Finset.univ fun _ : Dev nD => shared b m K := BI.bigSep_of_persistent Finset.univ _
  iapply (show iprop((bigSep Finset.univ fun _ : Dev nD => shared b m K) ∗ (bigSep Finset.univ fun c : Dev nD => spots c) ∗ bigSep Finset.univ fun c : Dev nD => pays c)
      ⊢ bigSep Finset.univ fun c => iprop(∃ K, ghost b m K c) from by
    rw [← bigSep_sep', ← bigSep_sep']
    exact bigSep_mono fun c _ => show iprop(shared b m K ∗ spots c ∗ pays c) ⊢ (iprop(∃ K, ghost b m K c) : sProp 𝕄) from by
      iintro H; iexists K; iapply (ghost_of b m K c); iexact H)
  isplitr
  · iapply hshare
    unfold shared
    isplitr <;> iassumption
  isplitl [Hs] <;> iassumption

/-- The launch's global step: every device's counters and share of the seed become every device's ghost state. -/
theorem launch_step :
    (bigSep Finset.univ fun c => iprop(Pipeline.ownSems0 (Ix := Unit) (Name := ℕ) (U := UA) (Lvl := ℕ) (Val := Elt F) (τ := τ) ownSem c
        ∗ unscopedSems0 c ∗ dealt b m c) : sProp 𝕄)
      ⊢ |={Set.univ}=> bigSep Finset.univ fun c => iprop(∃ K, ghost b m K c) :=
  ((bigSep_mono fun c _ => open_cells b m c).trans (bigSep_fupd _ _)).trans (BI.fupd_mono (sort_out b m))

omit [FloatOps F] in
/-- The launch's credit: a moving device gets what its partner owes it; among staying devices nothing is owed. -/
theorem launch_creds (c : Dev nD) : (Pipeline.launchCred (owed₀ b) c : sProp 𝕄) ⊢ creds b c := by
  cases b
  · show (_ : sProp 𝕄) ⊢ iprop(emp)
    iintro -; iempintro
  · rw [Pipeline.launchCred_of_sum (owed₀ true) (fun c => tallyAt (barCell c) () 1 + tallyAt (recvCell c) () credit)
      ((Finset.sum_congr rfl fun d _ => add_comm _ _).trans
        (Equiv.sum_comp swapDev fun d => (tallyAt (barCell d) () 1 + tallyAt (recvCell d) () credit : CellTallies nD τ sig Unit)))
      (fun d g h => by
        by_contra hg
        refine h ?_
        rw [Pi.add_apply, tallyAt_ne_cell (fun e => hg (congrArg Prod.fst e)), tallyAt_ne_cell (fun e => hg (congrArg Prod.fst e)), add_zero]) c]
    show (_ : sProp 𝕄) ⊢ iprop(cred (tallyAt (barCell c) () 1) ∗ cred (tallyAt (recvCell c) () credit))
    exact (cred_add _ _).1

/-! ## Into and out of the kernel -/

/-- Into the kernel: the levels, the credit, the ghost state and the two arrays no window stages are what `start` asks. -/
theorem enter (c : Dev nD) :
    iprop(Pipeline.unscopedRestP Pipeline.Prefetch.none cfg0.spec c (fun r => m ((c : Thread nD τ).loc r)) ∗ levAts levelled level
        ∗ Pipeline.launchCred (owed₀ b) c ∗ prngReg c (ρ c) ∗ ∃ K, ghost b m K c)
      ⊢ (|={Set.univ}=> iprop(start b m c ∗ emp) : sProp 𝕄) := by
  rw [Pipeline.unscopedRestP_none, unscopedRest0_eq]
  unfold start xAt oAt
  iintro ⟨⟨Hx, Ho⟩, Hlev, Hc, -, HG⟩
  imodintro
  isplitl
  · isplitl [HG]; · iexact HG
    isplitl [Hc]; · iapply (launch_creds b c); iexact Hc
    isplitl [Hlev]; · iexact Hlev
    isplitl [Hx]; · iexact Hx
    iexists _; iexact Ho
  · iempintro

theorem enter_region (c : Dev nD) :
    iprop(start b m c ∗ Pipeline.prefHeld Pipeline.Prefetch.none c (fun _ => fullShare.right) (fun k => k.elim0) ∗ Pipeline.scopedRest cfg0.spec c)
      ⊢ (dats b m 0 c).Φ 0 := by
  show _ ⊢ (start b m c : sProp 𝕄)
  iintro ⟨H, -⟩; iexact H

/-- What a device keeps to the end: its two arrays and its barrier counter at zero. -/
def kept (c : Dev nD) : sProp 𝕄 := iprop(xAt m c ∗ oHas m c (source b c) ∗ unscopedSems0 c)

/-- Out of the kernel: `finish` gives back the kernel's own counters at zero. -/
theorem leave_region (c : Dev nD) :
    (dats b m 0 c).Φ (Fin.last cfg0.N) ⊢ (iprop(kept b m c ∗ Pipeline.ownSems0 ownSem c ∗ Pipeline.scopedRest cfg0.spec c) : sProp 𝕄) := by
  show finish b m c ⊢ _
  rw [scopedRest0_eq, ownSems_eq]
  unfold finish kept
  rw [unscopedSems_eq]
  iintro ⟨Hx, Ho, HB, HS, HV⟩
  isplitl [Hx Ho HB]
  · isplitl [Hx]; · iexact Hx
    isplitl [Ho] <;> iassumption
  isplitl
  · isplitl [HS] <;> iassumption
  · iempintro

/-- Of the final memory: device `c`'s block of `x` is unchanged, its result array holds the source's block, and its unscoped
    counters are zero. -/
def Ends (c : Dev nD) (s : MemSt nD τ sig (Elt F)) : Prop :=
  s.mem ((c : Thread nD τ).loc main_arg0) = m ((c : Thread nD τ).loc main_arg0)
    ∧ s.mem ((c : Thread nD τ).loc main_v1) = m ((source b c : Thread nD τ).loc main_arg0)
    ∧ ∀ sm : SemLoc sig, sm.isScoped .tc = false → s.sem ((c : Thread nD τ), sm) = 0

theorem ends (c : Dev nD) (s' : Phys nD τ sig (Elt F)) :
    iprop(kept b m c ∗ emp ∗ SI s') ⊢ (|={Set.univ}=> iprop(⌜Ends b m c s'.mem⌝ ∗ SI s') : sProp 𝕄) := by
  unfold kept xAt oHas oAt
  iintro ⟨⟨Hx, Ho, Hu⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨Buf.eq_of_forall_mem_univ hx, Buf.eq_of_forall_mem_univ ho, hu⟩
  · iexact HSI

/-- The levels let every device make the staging pipeline's own waits. -/
theorem staging_waits (c : Dev nD) : (levAts levelled level : sProp 𝕄) ⊢ Pipeline.cellsWaits cfgs (dats b m) () 0 c :=
  Pipeline.cellsWaits_intro cfgs (dats b m) () 0 c fun w s t => by
    rcases t with ⟨_ | _, ht⟩
    · exact mayWait_launch b c (by fin_cases w <;> fin_cases s <;> decide) (by fin_cases w <;> fin_cases s <;> decide)
    · show _ ⊢ (MayWait _ _ _ 0 : sProp 𝕄)
      rw [MayWait_zero]; iintro -; iempintro

/-! ## The run -/

/-- What the run establishes: on every device the two arguments are unchanged and the result array holds the block of `x` of
    the device the permutation names; every counter is zero. -/
def Moved (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = m ((source b c : Thread nD τ).loc main_arg0))
    ∧ r.2.sem = fun _ => 0

set_option maxRecDepth 8000 in
/-- For any float values, from any memory whose permutation says, on every device, that all blocks change places (or that all
    stay), with zero counters: `@main` on the 32 devices ends on every schedule, in a state `Moved` describes. -/
theorem run_main (hs : Says b m) : θ_run defs (onTc (τ := τ) (main (F := F))) ⟨m, fun _ => 0, ρ⟩ (Moved b m) :=
  Pipeline.θ_run_region_owing_glob_pf (fun p => (cfgs p).toPCfg) (fun p => (cfgs p).toPCfg_adm) (dats b m) () cellOf_inj (0 : Fin 1)
    winFacts0.to₀ ownSemFacts (Pipeline.PreFacts.none _) EP defs₀ noVariants m ρ main
    (hmain := fun _ => rfl)
    (hbody := body_obligation b m hs) (hne := fun w => by fin_cases w; exact Nat.succ_pos _) (harr := arr_whole0) (hstage := stage_whole0)
    (hshare := fun c w => by unfold Dat.share; split <;> rfl)
    (hdistinct := winFacts0.arr_inj)
    (O₀ := owed₀ b) (howed₀ := fun _ => rfl) (howedN := fun _ => rfl)
    (L := levelled) (lv := level) (hL := levelled_other) (hwaits := staging_waits b m)
    (G := dealt b m) (G' := fun c => iprop(∃ K, ghost b m K c)) (u₀ := seed)
    (hu₀ := by
      unfold seed
      iintro Hu
      ihave H := (ownU_pair _ _) $$ Hu
      icases H with ⟨HP, HX⟩
      imod (deal b m) $$ HX with HG
      imodintro
      isplitl [HP] <;> iassumption)
    (hglob := launch_step b m)
    (hA := fun _ _ => rfl) (hpf := fun _ k => k.elim0)
    (X := start b m) (Y := kept b m) (Z := fun _ => iprop(emp))
    (hX := enter b m ρ) (hin := enter_region b m) (hout := leave_region b m)
    (QY := Ends b m) (hY := ends b m)
    (hQ := fun s h hz => ⟨fun c => ⟨(h c).2.2.1, ((h c).1 0).trans (Dat.arrAt_in (dats b m 0 c) 0 rfl _), (h c).2.2.2.1⟩,
      sem_eq_zero hz fun c => (h c).2.2.2.2⟩)

end Cert.Exchange

end
-- ==== Proof.Value.lean ====
/-
# What the reference computes, and the blocks of it

The reference sorts the two words of the permutation together with the positions 0 and 1, takes the positions that come out,
and reads the rows of `x` in that order. At either permutation of two that order is the permutation itself, so row `r` of the
result is row `1 - r` of `x` (all blocks change places) or row `r` (all stay), and the block of it on a device is the block of
`x` on the device the kernel takes it from.
-/
module

public import proofs.«01_k».proof.Proof.Exchange
public import proofs.«01_k».proof.Proof.Gen.ReferenceIdeal.Run
public import proofs.«01_k».proof.Pre_swaps_Kernel
public import proofs.«01_k».proof.Pre_stays_Kernel
public import Idealize.ShloMosaic.Lib.Layout

@[expose] public section

noncomputable section

namespace Cert.Exchange

open Idealize.ShloMosaic
open Idealize.ShloMosaic.TcCoe
open Cert.ReferenceIdeal (S2 S2x1 S_ S2x4096x2048 comparator_i32_i32_d0)
open Cert.ReferenceIdeal.Gen (bcast_S_S2 bcast_S2_S2x1_0)

/-- The permutation's words: position `r` holds `1 - r` when the blocks change places and `r` when they stay. -/
def perm (b : Bool) : IVec S2 32 := fun i => BitVec.ofNat 32 (if b then 1 - (i 0).val else (i 0).val)

/-- Every device's own word names the row its block comes from. -/
theorem perm_ownRow (b : Bool) (c : Dev Cert.KernelIdeal.nD) : perm b (ownRow c) = rowWord b c := by
  revert b c; decide +kernel

/-- The permutation whose words were tested to be 1, 0 is the exchange. -/
theorem eq_perm_of_swaps {F : FTy → Type} [FloatOps F] {x : FVec F Cert.Pre_swaps_Kernel.S1x4096x2048 .f32} {pi : IVec S2 32}
    (h : Cert.Pre_swaps_Kernel.fn x pi = fun _ => 1#1) : pi = perm true := by
  have hlit : ∀ i : S2.Idx, Cert.Pre_swaps_Kernel.lit0 (S2.rowMajor i) = perm true i := by decide +kernel
  funext i
  exact (IntOp.cmpi_eq.mp (congrFun h i)).trans (hlit i)

/-- The permutation whose words were tested to be 0, 1 leaves every block in place. -/
theorem eq_perm_of_stays {F : FTy → Type} [FloatOps F] {x : FVec F Cert.Pre_stays_Kernel.S1x4096x2048 .f32} {pi : IVec S2 32}
    (h : Cert.Pre_stays_Kernel.fn x pi = fun _ => 1#1) : pi = perm false := by
  have hlit : ∀ i : S2.Idx, Cert.Pre_stays_Kernel.lit0 (S2.rowMajor i) = perm false i := by decide +kernel
  funext i
  exact (IntOp.cmpi_eq.mp (congrFun h i)).trans (hlit i)

/-- The positions the reference's sort of `pi` puts out, a negative one moved up by two. -/
abbrev order (pi : IVec S2 32) : IVec S2 32 :=
  select (cmpi .slt ((Host.sort2 S2 0 comparator_i32_i32_d0 pi (iotaInDim S2 32 0)).2) (broadcastInDim S2 ![] bcast_S_S2 (constantI S_ 32 0#32)))
    (addi ((Host.sort2 S2 0 comparator_i32_i32_d0 pi (iotaInDim S2 32 0)).2) (broadcastInDim S2 ![] bcast_S_S2 (constantI S_ 32 2#32)))
    ((Host.sort2 S2 0 comparator_i32_i32_d0 pi (iotaInDim S2 32 0)).2)

/-- Either permutation of two is its own sorting order. -/
theorem order_perm (b : Bool) : order (perm b) = perm b := by
  cases b <;> decide +kernel

/-- The reference's row gather. -/
abbrev rows := Cert.ReferenceIdeal.gather_S2x4096x2048_S2x1_S2x4096x2048_12_0_n_n_0_1_140962048

/-- On the row axis it reads the row the start index names, read signed and clamped. -/
theorem rows_row (idx : IVec S2x1 32) (y : S2x4096x2048.Idx) (k : S2x1.Idx) (hk : (k 0).val = (y 0).val) :
    (rows.operandIdx y idx 0).val = min (idx k).toInt.toNat 1 := by
  show rows.start y idx 0 + rows.batchCoord y 0 + rows.offCoord y 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 3) ∈ rows.startIndexMap from List.mem_singleton.mpr rfl)]
  have hat : rows.siIdx y ⟨List.idxOf (0 : Fin 3) rows.startIndexMap, List.idxOf_lt_length_iff.2 (List.mem_singleton.mpr rfl)⟩ = k := by
    funext a; refine Fin.ext ?_
    match a with
    | ⟨0, _⟩ => exact hk.symm
    | ⟨1, _⟩ => exact (Nat.lt_one_iff.mp (k 1).isLt).symm
  rw [hat]
  rfl

/-- On the other two axes it reads where it writes. -/
theorem rows_rest (idx : IVec S2x1 32) (y : S2x4096x2048.Idx) (a : Fin 3) (ha : a ≠ 0) : (rows.operandIdx y idx a).val = (y a).val := by
  show rows.start y idx a + rows.batchCoord y a + rows.offCoord y a = _
  have hs : rows.start y idx a = 0 := dif_neg fun h => ha (List.mem_singleton.mp h)
  rw [GatherDims.batchCoord_eq_zero _ _ _ List.not_mem_nil, hs, Nat.add_zero, Nat.zero_add]
  match a with
  | ⟨0, _⟩ => exact absurd rfl ha
  | ⟨1, _⟩ => rfl
  | ⟨2, _⟩ => rfl

/-- The reference's result from `x` and the permutation's words. -/
abbrev result {α : Type} (x : S2x4096x2048.Idx → α) (pi : IVec S2 32) : S2x4096x2048.Idx → α :=
  Host.gather rows x (broadcastInDim S2x1 ![0] bcast_S2_S2x1_0 (order pi))

/-- The block of a whole array that device `c` holds. -/
abbrev blockOf {α : Type} (c : Dev Cert.KernelIdeal.nD) (v : S2x4096x2048.Idx → α) : (⟨3, ![1, 4096, 2048]⟩ : Shape).Idx → α :=
  Layout.blockN ⟨3, ![1, 4096, 2048]⟩ ⟨3, ![2, 4096, 2048]⟩ (Layout.meshBlock [2, 4, 4] ![[0], [], []] c) v

/-- The row of the whole array that is device `c`'s block. -/
theorem block_row (c : Dev Cert.KernelIdeal.nD) : (Layout.meshBlock (r := 3) [2, 4, 4] ![[0], [], []] c (by decide) 0).val = c.val / 16 := by
  revert c; decide +kernel

/-- The start index of device `c`'s row. -/
def startAt (c : Dev Cert.KernelIdeal.nD) : S2x1.Idx
  | ⟨0, _⟩ => ⟨c.val / 16, Nat.div_lt_of_lt_mul c.isLt⟩
  | ⟨1, _⟩ => ⟨0, Nat.one_pos⟩

/-- It names the row of the device the block comes from. -/
theorem start_source (b : Bool) (c : Dev Cert.KernelIdeal.nD) :
    min (broadcastInDim S2x1 ![0] bcast_S2_S2x1_0 (perm b) (startAt c)).toInt.toNat 1 = (source b c).val / 16 := by
  revert b c; decide +kernel

/-- Device `c`'s block of the reference's result is the block of `x` on the device its block comes from. -/
theorem blockOf_result {α : Type} (b : Bool) (c : Dev Cert.KernelIdeal.nD) (x : S2x4096x2048.Idx → α) :
    blockOf c (result x (perm b)) = blockOf (source b c) x := by
  funext i
  unfold blockOf result
  rw [order_perm]
  unfold Layout.blockN Host.gather
  refine congrArg x (funext fun a => Fin.ext ?_)
  have hi : (i 0).val = 0 := Nat.lt_one_iff.mp (i 0).isLt
  have hat (e : Dev Cert.KernelIdeal.nD) (h : Layout.TilesN ⟨3, ![1, 4096, 2048]⟩ ⟨3, ![2, 4096, 2048]⟩ _) :
      (h.idx (Layout.meshBlock (r := 3) [2, 4, 4] ![[0], [], []] e (by decide)) i 0).val = e.val / 16 := by
    exact (congrArg₂ (fun r o => r * 1 + o) (block_row e) hi).trans (Nat.mul_one _)
  by_cases ha : a = 0
  · subst ha
    rw [rows_row _ _ (startAt c) (hat c _).symm, start_source]
    exact (hat _ _).symm
  · rw [rows_rest _ _ a ha]
    match a with
    | ⟨0, _⟩ => exact absurd rfl ha
    | ⟨1, _⟩ => rfl
    | ⟨2, _⟩ => rfl

end Cert.Exchange

end
-- ==== Proof.lean ====
/-
# The exchange of blocks between the two halves of the mesh: the claim

The run of the kernel is `Cert.Exchange.run_main` (Proof/Run.lean), once for any float values and for either permutation of
two. Here it is read at the claims: the frames of both programs, the reference's frame, and the value, a block of the
reference's result on every device (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.KernelIdeal Cert.Exchange

variable {F : FTy → Type} [FloatOps F]

/-- The run of the kernel where every device's second argument is the permutation `perm b`. -/
theorem run_perm (b : Bool) (m : (ℓ : Loc nD τ sig) → Buf (Elt F) ℓ) (g : Dev nD → PrngReg)
    (h : ∀ c : Dev nD, (m ((c : Thread nD τ).loc main_arg1) : IVec S2 32) = perm b) :
    θ_run defs (onTc (τ := τ) (main (F := F))) ⟨m, fun _ => 0, g⟩ (Moved b m) :=
  run_main b m g fun c => (congrFun (h c) (ownRow c)).trans (perm_ownRow b c)

/-- Such a run leaves the arguments unchanged and every counter at zero. -/
theorem frame_perm (b : Bool) (m : (ℓ : Loc nD τ sig) → Buf (Elt F) ℓ) (g : Dev nD → PrngReg)
    (h : ∀ c : Dev nD, (m ((c : Thread nD τ).loc main_arg1) : IVec S2 32) = perm b) :
    θ_run defs (onTc (τ := τ) (main (F := F))) ⟨m, fun _ => 0, g⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run defs _ _).mono (fun _ hr => ⟨fun c => ⟨(hr.1 c).1, (hr.1 c).2.1⟩, hr.2⟩) (run_perm b m g h)

/-- The ideal program's frame, the permutation exchanging the halves. -/
theorem frame_ideal_swaps : Cert.quiescent_KernelIdeal := fun m g hp => frame_perm true m g fun c => eq_perm_of_swaps (hp c)
/-- The ideal program's frame, the permutation leaving them in place. -/
theorem frame_ideal_stays : Cert.quiescent_KernelIdeal_pre_stays_Kernel := fun m g hp => frame_perm false m g fun c => eq_perm_of_stays (hp c)
/-- The two programs have one text, so their tables of kernel bodies are equal, label by label. -/
theorem kernels_eq : Cert.Kernel.defs₀ (F := F) = defs₀ (F := F) :=
  congrArg (Defs.onTc (nD := nD) (τ := τ) (sig := sig) (Val := Elt F) (Λ := Λ₀)) (funext fun l => funext fun a => match l, a with
    | ⟨0, _⟩, (_, _) => rfl
    | ⟨_ + 1, h⟩, _ => absurd h (Nat.not_lt.2 (Nat.le_add_left _ _)))
/-- So are their whole tables. -/
theorem defs_eq : Cert.Kernel.defs (F := F) = defs (F := F) := congrArg (Pipeline.defs (pcfgs (F := F))) kernels_eq

/-- The program's own frame, the permutation exchanging the halves. -/
theorem frame_kernel_swaps : Cert.quiescent_Kernel := fun m g hp => by
  rw [defs_eq]
  exact frame_perm (F := Bits) true m g fun c => eq_perm_of_swaps (hp c)
/-- The program's own frame, the permutation leaving them in place. -/
theorem frame_kernel_stays : Cert.quiescent_Kernel_pre_stays_Kernel := fun m g hp => by
  rw [defs_eq]
  exact frame_perm (F := Bits) false m g fun c => eq_perm_of_stays (hp c)

/-- The reference's frame: it runs to its end and has no counter. -/
theorem frame_reference : Cert.quiescent_ReferenceIdeal := fun m g _ => (θ_run Cert.ReferenceIdeal.defs _ _).mono
  (fun r h => ⟨fun c => (h c).2, sem_eq_zero_of_no_sems (by decide) r.2⟩) (Cert.ReferenceIdeal.Value.run m g)

/-- The value at either permutation: the reference's result is `result` of its arguments, and every device ends holding its
    block of it. -/
theorem value_perm (b : Bool) (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (h : ∀ c : Dev nD, (m ((c : Thread nD τ).loc main_arg1) : IVec S2 32) = perm b)
    (hx : ∀ c : Dev nD,
      m ((c : Thread nD τ).loc main_arg0) = blockOf c (m' (((0 : Dev Cert.ReferenceIdeal.nD) : Thread Cert.ReferenceIdeal.nD Cert.ReferenceIdeal.τ).loc Cert.ReferenceIdeal.main_arg0))
      ∧ m ((c : Thread nD τ).loc main_arg1) = m' (((0 : Dev Cert.ReferenceIdeal.nD) : Thread Cert.ReferenceIdeal.nD Cert.ReferenceIdeal.τ).loc Cert.ReferenceIdeal.main_arg1)) :
    ∃ v : Buf (Elt Ideal) (((0 : Dev Cert.ReferenceIdeal.nD) : Thread Cert.ReferenceIdeal.nD Cert.ReferenceIdeal.τ).loc Cert.ReferenceIdeal.main_v7),
      θ_run defs (onTc (τ := τ) (main (F := Ideal))) ⟨m, fun _ => 0, g⟩ (fun r => ∀ c : Dev nD,
          r.2.mem ((c : Thread nD τ).loc main_v1) = blockOf c v
          ∧ r.2.mem ((c : Thread nD τ).loc main_arg0) = m ((c : Thread nD τ).loc main_arg0)
          ∧ r.2.mem ((c : Thread nD τ).loc main_arg1) = m ((c : Thread nD τ).loc main_arg1))
      ∧ θ_run Cert.ReferenceIdeal.defs (onTc (τ := Cert.ReferenceIdeal.τ) (Cert.ReferenceIdeal.main (F := Ideal))) ⟨m', fun _ => 0, g'⟩ (fun r =>
          r.2.mem (((0 : Dev Cert.ReferenceIdeal.nD) : Thread Cert.ReferenceIdeal.nD Cert.ReferenceIdeal.τ).loc Cert.ReferenceIdeal.main_v7) = v
          ∧ r.2.mem (((0 : Dev Cert.ReferenceIdeal.nD) : Thread Cert.ReferenceIdeal.nD Cert.ReferenceIdeal.τ).loc Cert.ReferenceIdeal.main_arg0)
              = m' (((0 : Dev Cert.ReferenceIdeal.nD) : Thread Cert.ReferenceIdeal.nD Cert.ReferenceIdeal.τ).loc Cert.ReferenceIdeal.main_arg0)
          ∧ r.2.mem (((0 : Dev Cert.ReferenceIdeal.nD) : Thread Cert.ReferenceIdeal.nD Cert.ReferenceIdeal.τ).loc Cert.ReferenceIdeal.main_arg1)
              = m' (((0 : Dev Cert.ReferenceIdeal.nD) : Thread Cert.ReferenceIdeal.nD Cert.ReferenceIdeal.τ).loc Cert.ReferenceIdeal.main_arg1)) := by
  refine ⟨result (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)), ?_, (θ_run Cert.ReferenceIdeal.defs _ _).mono (fun _ hr => hr 0) (Cert.ReferenceIdeal.Value.run m' g')⟩
  refine (θ_run defs _ _).mono (fun r hr c => ⟨?_, (hr.1 c).1, (hr.1 c).2.1⟩) (run_perm b m g h)
  refine ((hr.1 c).2.2.trans (hx (source b c)).1).trans ?_
  rw [← (hx c).2, h c]
  exact (blockOf_result b c _).symm

/-- The value where the permutation exchanges the halves. -/
theorem value_swaps : Cert.algebraic_KernelIdeal_ReferenceIdeal := fun m g m' g' hp hx =>
  value_perm true m g m' g' (fun c => eq_perm_of_swaps (hp c)) hx
/-- The value where it leaves them in place. -/
theorem value_stays : Cert.algebraic_KernelIdeal_ReferenceIdeal_pre_stays_Kernel := fun m g m' g' hp hx =>
  value_perm false m g m' g' (fun c => eq_perm_of_stays (hp c)) hx

/-- Everything the certificate claims. -/
theorem claim : Cert.Claim :=
  ⟨Cert.Kernel.Gen.facts, Cert.KernelIdeal.Gen.facts, Cert.ReferenceIdeal.Gen.facts, Cert.Pre_swaps_Kernel.Gen.facts,
    Cert.Pre_stays_Kernel.Gen.facts, Cert.Pre_swaps_ReferenceIdeal.Gen.facts, Cert.Pre_stays_ReferenceIdeal.Gen.facts,
    frame_kernel_swaps, frame_kernel_stays, frame_ideal_swaps, frame_ideal_stays, frame_reference,
    fun m g _ => frame_reference m g trivial, fun m g _ => frame_reference m g trivial, trivial, value_swaps, value_stays⟩

end Cert.Proof

end
